-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_range : Cert.Pre_idx_in_range.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ preserves_Kernel_KernelIdeal
    ∧ algebraic_KernelIdeal_ReferenceIdeal (hKernelIdeal := hKernelIdeal) (hReferenceIdeal := hReferenceIdeal) (hPre_idx_in_range := hPre_idx_in_range)
-- ==== Pre_idx_in_range.lean ====
abbrev S4x8192x2048 : Shape := ⟨3, ![4, 8192, 2048]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S4x8192x2048 .f32) (main_arg1 : IVec S4 32) : IVec S_ 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 8192#32
  let main_v2 : IVec S4 32 := broadcastInDim S4 ![] bcast_S_S4 main_c_0
  let main_v3 : IVec S4 1 := cmpi .slt main_arg1 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  main_v5
-- ==== Kernel.lean ====
abbrev S4x8192x2048 : Shape := ⟨3, ![4, 8192, 2048]⟩
abbrev S4 : Shape := ⟨1, ![4]⟩
abbrev S32768x2048 : Shape := ⟨2, ![32768, 2048]⟩
abbrev S4x2048 : Shape := ⟨2, ![4, 2048]⟩
abbrev S_ : Shape := ⟨0, ![]⟩
abbrev S1 : Shape := ⟨1, ![1]⟩
abbrev S1x2048 : Shape := ⟨2, ![1, 2048]⟩

abbrev nBuf : Table → Nat
  | .hbm => 4
  | .local .scScalar .smem => 1
  | _ => 0

abbrev bufTy : (tb : Table) → Fin (nBuf tb) → BufTy
  | .hbm, ⟨0, _⟩ => ⟨S4x8192x2048, .f32⟩
  | .hbm, ⟨1, _⟩ => ⟨S4, .i32⟩
  | .hbm, ⟨2, _⟩ => ⟨S32768x2048, .f32⟩
  | .hbm, ⟨3, _⟩ => ⟨S4x2048, .f32⟩
  | .local .scScalar .smem, ⟨0, _⟩ => ⟨S4, .i32⟩
  | _, _ => ⟨S4x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0 : BitVec 32 := 0#32
  let v2 : BitVec 32 := Scalar.addi v1 c0_i32_0
  let c0_i32_3 : BitVec 32 := 0#32
  ![v2.toNat, 0]

def k0_off2 (v4 : BitVec 32) : Fin 2 → Nat :=
  let c8192_i32 : BitVec 32 := 8192#32
  let v5 : BitVec 32 := Scalar.addi v4 c8192_i32
  let c0_i32_6 : BitVec 32 := 0#32
  ![v5.toNat, 0]

def k0_off3 (v7 : BitVec 32) : Fin 2 → Nat :=
  let c16384_i32 : BitVec 32 := 16384#32
  let v8 : BitVec 32 := Scalar.addi v7 c16384_i32
  let c0_i32_9 : BitVec 32 := 0#32
  ![v8.toNat, 0]

def k0_off4 (v10 : BitVec 32) : Fin 2 → Nat :=
  let c24576_i32 : BitVec 32 := 24576#32
  let v11 : BitVec 32 := Scalar.addi v10 c24576_i32
  let c0_i32_12 : BitVec 32 := 0#32
  ![v11.toNat, 0]

def k0_chk4 (v10 : BitVec 32) : Prop :=
  (∀ a, (k0_off4 v10) a + S1x2048.size a ≤ S32768x2048.size a)
theorem k0_off4_inb : ∀ (v10 : BitVec 32) (k0_hw4 : k0_chk4 v10), ∀ a, (k0_off4 v10) a + S1x2048.size a ≤ S32768x2048.size a := fun v10 k0_hw4 => k0_hw4

def k0_off5 (v1 : BitVec 32) : Fin 2 → Nat :=
  let c0_i32_0 : BitVec 32 := 0#32
  let v2 : BitVec 32 := Scalar.addi v1 c0_i32_0
  let c0_i32_15 : BitVec 32 := 0#32
  ![v2.toNat, 0]

def k0_chk1 (v1 : BitVec 32) : Prop :=
  (∀ a, (k0_off1 v1) a + S1x2048.size a ≤ S32768x2048.size a) ∧
  (∀ a, (k0_off5 v1) a + S1x2048.size a ≤ S32768x2048.size a)
theorem k0_off1_inb : ∀ (v1 : BitVec 32) (k0_hw1 : k0_chk1 v1), ∀ a, (k0_off1 v1) a + S1x2048.size a ≤ S32768x2048.size a := fun v1 k0_hw1 => k0_hw1.1
theorem k0_off5_inb : ∀ (v1 : BitVec 32) (k0_hw1 : k0_chk1 v1), ∀ a, (k0_off5 v1) a + S1x2048.size a ≤ S32768x2048.size a := fun v1 k0_hw1 => k0_hw1.2

def k0_off6 (v4 : BitVec 32) : Fin 2 → Nat :=
  let c8192_i32 : BitVec 32 := 8192#32
  let v5 : BitVec 32 := Scalar.addi v4 c8192_i32
  let c0_i32_18 : BitVec 32 := 0#32
  ![v5.toNat, 0]

def k0_chk2 (v4 : BitVec 32) : Prop :=
  (∀ a, (k0_off2 v4) a + S1x2048.size a ≤ S32768x2048.size a) ∧
  (∀ a, (k0_off6 v4) a + S1x2048.size a ≤ S32768x2048.size a)
theorem k0_off2_inb : ∀ (v4 : BitVec 32) (k0_hw2 : k0_chk2 v4), ∀ a, (k0_off2 v4) a + S1x2048.size a ≤ S32768x2048.size a := fun v4 k0_hw2 => k0_hw2.1
theorem k0_off6_inb : ∀ (v4 : BitVec 32) (k0_hw2 : k0_chk2 v4), ∀ a, (k0_off6 v4) a + S1x2048.size a ≤ S32768x2048.size a := fun v4 k0_hw2 => k0_hw2.2

def k0_off7 (v7 : BitVec 32) : Fin 2 → Nat :=
  let c16384_i32 : BitVec 32 := 16384#32
  let v8 : BitVec 32 := Scalar.addi v7 c16384_i32
  let c0_i32_21 : BitVec 32 := 0#32
  ![v8.toNat, 0]

def k0_chk3 (v7 : BitVec 32) : Prop :=
  (∀ a, (k0_off3 v7) a + S1x2048.size a ≤ S32768x2048.size a) ∧
  (∀ a, (k0_off7 v7) a + S1x2048.size a ≤ S32768x2048.size a)
theorem k0_off3_inb : ∀ (v7 : BitVec 32) (k0_hw3 : k0_chk3 v7), ∀ a, (k0_off3 v7) a + S1x2048.size a ≤ S32768x2048.size a := fun v7 k0_hw3 => k0_hw3.1
theorem k0_off7_inb : ∀ (v7 : BitVec 32) (k0_hw3 : k0_chk3 v7), ∀ a, (k0_off7 v7) a + S1x2048.size a ≤ S32768x2048.size a := fun v7 k0_hw3 => k0_hw3.2

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S4x8192x2048 : Shape := ⟨3, ![4, 8192, 2048]⟩
abbrev S4 : Shape := ⟨1, ![4]⟩
abbrev S_ : Shape := ⟨0, ![]⟩
abbrev S4x1 : Shape := ⟨2, ![4, 1]⟩
abbrev S4x2 : Shape := ⟨2, ![4, 2]⟩
abbrev S4x2048 : Shape := ⟨2, ![4, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4, .i32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i1⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4, .i32⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S4, .i32⟩
  | .hbm, ⟨17, _⟩ => ⟨S4x1, .i32⟩
  | .hbm, ⟨18, _⟩ => ⟨S4x1, .i32⟩
  | .hbm, ⟨19, _⟩ => ⟨S4x2, .i32⟩
  | .hbm, ⟨20, _⟩ => ⟨S4x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Setup.lean ====
/-
  The row selection as the launch sees it: the program's label signature and body table, the resources its proof
  runs over, the three arrays the call hands its sequencer, and the precondition read as a bound on the four words.
  Everything here is stated over any float values, so that one run serves both readings of the program.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Batch
public import proofs.«01_k».proof.Proof.Gen.KernelIdeal
public import proofs.«01_k».proof.Proof.Gen.KernelIdeal.Skeleton
public import proofs.«01_k».proof.Proof.Gen.Pre_idx_in_range

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are none of a kernel's, and no buffer is shared among tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds beside the transfers' counters -/

abbrev UH : Type := URounds (GSem nD τ sig) ℕ
abbrev UU : Type := UH × Counters
abbrev EH : Emb UH (MT nD τ sig (HIx 1) (Elt F) ℕ UU ℕ) := embL

/-! ## The arrays -/

abbrev aLoc (d : Dev nD) : Loc nD τ sig := (SparseCore.T d).loc main_arg0
abbrev iLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1

/-- The sequencer's four words of scalar memory. -/
abbrev wLoc (d : Dev nD) (c : Fin τ.nSC) : Loc nD τ sig := (S d c).loc cc0_scratch0

def coordsS (c : Fin (grid0.bound 0)) : grid0.Coords := fun | 0 => c | ⟨_ + 1, h⟩ => absurd h (Nat.not_lt.2 (Nat.le_add_left _ _))

/-- SparseCore 0's sequencer. -/
abbrev S0 (d : Dev nD) (h : 0 < grid0.bound 0) : Thread nD τ := S d ((⟨0, h⟩ : Fin (grid0.bound 0)).castLE hcore0)

/-- What the claims assume of the indices: each word, read as a natural number, is below 8192. -/
def InRange (idx : IVec S4 32) : Prop := ∀ i, (idx i).toNat < 8192

end Cert.Proof.Rows

end
-- ==== Proof.Words.lean ====
/-
  The four index words. Each, when it is below 8192, makes the side conditions the kernel assumes of it hold: the row
  it names lies inside the flattened array. The word the sequencer loads from its scalar memory is the index array's.
-/
module

public import proofs.«01_k».proof.Proof.Setup
public import Idealize.ShloMosaic.Lib.Pointwise.Index
public import Idealize.ShloMosaic.Lib.ViewIndex

@[expose] public section

noncomputable section

namespace Cert.Proof.Rows

open Cert.KernelIdeal Cert.KernelIdeal.Gen
open Idealize.ShloMosaic

variable {F : FTy → Type}

/-- A word below 8192 plus a batch element's base row does not wrap. -/
theorem add_toNat (w c : BitVec 32) (h : w.toNat < 8192) (hc : c.toNat ≤ 24576) : (Scalar.addi w c).toNat = w.toNat + c.toNat := by
  show (w + c).toNat = _
  rw [BitVec.toNat_add]; omega

/-- The flattened row batch element `b` reads at index word `w` is `w + 8192 b`. -/
theorem off1_eq (w : BitVec 32) (h : w.toNat < 8192) : k0_off1 w = ![w.toNat, 0] := by
  show ![(Scalar.addi w 0#32).toNat, 0] = _
  rw [add_toNat w _ h (by decide)]; rfl

theorem off2_eq (w : BitVec 32) (h : w.toNat < 8192) : k0_off2 w = ![w.toNat + 8192, 0] := by
  show ![(Scalar.addi w 8192#32).toNat, 0] = _
  rw [add_toNat w _ h (by decide)]; rfl

theorem off3_eq (w : BitVec 32) (h : w.toNat < 8192) : k0_off3 w = ![w.toNat + 16384, 0] := by
  show ![(Scalar.addi w 16384#32).toNat, 0] = _
  rw [add_toNat w _ h (by decide)]; rfl

theorem off4_eq (w : BitVec 32) (h : w.toNat < 8192) : k0_off4 w = ![w.toNat + 24576, 0] := by
  show ![(Scalar.addi w 24576#32).toNat, 0] = _
  rw [add_toNat w _ h (by decide)]; rfl

/-- A row below 32768 is inside the flattened array. -/
theorem row_inb (n : ℕ) (h : n < 32768) : ∀ a, (![n, 0] : Fin 2 → ℕ) a + S1x2048.size a ≤ S32768x2048.size a := by
  intro a; fin_cases a <;> simp <;> omega

theorem chk1_ok (w : BitVec 32) (h : w.toNat < 8192) : k0_chk1 w :=
  ⟨by rw [off1_eq w h]; exact row_inb _ (by omega), by rw [show k0_off5 w = k0_off1 w from rfl, off1_eq w h]; exact row_inb _ (by omega)⟩

theorem chk2_ok (w : BitVec 32) (h : w.toNat < 8192) : k0_chk2 w :=
  ⟨by rw [off2_eq w h]; exact row_inb _ (by omega), by rw [show k0_off6 w = k0_off2 w from rfl, off2_eq w h]; exact row_inb _ (by omega)⟩

theorem chk3_ok (w : BitVec 32) (h : w.toNat < 8192) : k0_chk3 w :=
  ⟨by rw [off3_eq w h]; exact row_inb _ (by omega), by rw [show k0_off7 w = k0_off3 w from rfl, off3_eq w h]; exact row_inb _ (by omega)⟩

theorem chk4_ok (w : BitVec 32) (h : w.toNat < 8192) : k0_chk4 w := by
  unfold k0_chk4; rw [off4_eq w h]; exact row_inb _ (by omega)

/-- The word loaded at position `k` of the scalar memory the index array was copied into whole. -/
theorem word_eq (fi fw : S4.Idx → BitVec 32) (k : Fin 4)
    (hk : ∀ a, (![k.val] : Fin 1 → ℕ) a + S1.size a ≤ S4.size a) (hn : 0 < S1.numel) :
    View.readAt (Elt F) (Memref.whole cc0_scratch0).view (Rect.unit (s := S4) ![k.val] S1.size hk).toLoadRect
      (View.write (Elt F) (Memref.whole cc0_scratch0).view fw
        (View.read (Elt F) (Memref.whole main_arg1_scs).view fi) Finset.univ) (Shape.Idx.first hn) = fi (ix1 k) := by
  show View.read (Elt F) (View.whole cc0_scratch0) (View.write (Elt F) (View.whole cc0_scratch0) fw fi Finset.univ)
    ((Rect.unit (s := S4) ![k.val] S1.size hk).idx (Shape.Idx.first hn)) = _
  rw [View.write_whole_univ]
  show fi _ = _
  refine congrArg fi (funext fun a => ?_)
  fin_cases a
  refine Fin.ext ?_
  have h0 : (Shape.Idx.first hn 0).val = 0 := Nat.lt_one_iff.mp (Shape.Idx.first hn 0).isLt
  simpa using h0

/-- Rows of the flattened array at different offsets share no element. -/
theorem rows_disjoint {off off' : Fin 2 → ℕ} (h : ∀ a, off a + S1x2048.size a ≤ S32768x2048.size a)
    (h' : ∀ a, off' a + S1x2048.size a ≤ S32768x2048.size a) (hne : off 0 < off' 0 ∨ off' 0 < off 0) :
    Disjoint (((Memref.whole main_v0_scs : Memref sig .scScalar .hbm S32768x2048 .f32).slice
        (Rect.unit (s := S32768x2048) off S1x2048.size h) (fun _ => rfl)).view.set)
      (((Memref.whole main_v0_scs : Memref sig .scScalar .hbm S32768x2048 .f32).slice
        (Rect.unit (s := S32768x2048) off' S1x2048.size h') (fun _ => rfl)).view.set) :=
  View.disjoint_slice (v := View.whole main_v0_scs) (r := Rect.unit (s := S32768x2048) off S1x2048.size h)
    (r' := Rect.unit (s := S32768x2048) off' S1x2048.size h')
    (Rect.unit_disjoint (s := S32768x2048) 0 (by
      show off 0 + 1 ≤ off' 0 ∨ off' 0 + 1 ≤ off 0
      omega))

end Cert.Proof.Rows

end
-- ==== Proof.Select.lean ====
/-
  The selected rows: what the four row copies leave in the result array, as a function of the flattened array and the
  index words. Row `b` of the result is row `idx b + 8192 b` of the flattened array.
-/
module

public import proofs.«01_k».proof.Proof.Words

@[expose] public section

noncomputable section

namespace Cert.Proof.Rows

open Cert.KernelIdeal Cert.KernelIdeal.Gen
open Idealize.ShloMosaic

variable {F : FTy → Type}

/-- The flattened row that batch element `b` selects (the index word taken modulo 8192, so that it is one always). -/
def rowOf (idx : IVec S4 32) (b : Fin 4) : Fin 32768 :=
  ⟨(idx (ix1 b)).toNat % 8192 + 8192 * b.val, by have := b.isLt; omega⟩

/-- The result array: row `b` is the row that batch element `b` selects. -/
def picked {α : Type} (x : S32768x2048.Idx → α) (idx : IVec S4 32) : S4x2048.Idx → α :=
  fun j => x (ix2 (rowOf idx (j 0)) (j 1))

/-- A write through row `k` of the result array changes that row alone. -/
theorem write_row (f : S4x2048.Idx → Elt F .f32) (w : S1x2048.Idx → Elt F .f32) (k : Fin 4)
    (hk : ∀ a, (![k.val, 0] : Fin 2 → ℕ) a + S1x2048.size a ≤ S4x2048.size a) (j : S4x2048.Idx) :
    ((View.whole main_v1_scs).slice (Rect.unit (s := S4x2048) ![k.val, 0] S1x2048.size hk)).write (Elt F) f w Finset.univ j
      = if (j 0).val = k.val then w (ix2 0 (j 1)) else f j := by
  split
  · rename_i h
    have hj : j = ((View.whole main_v1_scs).slice (Rect.unit (s := S4x2048) ![k.val, 0] S1x2048.size hk)).emb (ix2 0 (j 1)) := by
      funext a
      fin_cases a
      · refine Fin.ext ?_
        simpa using h
      · refine Fin.ext ?_
        simp
    conv_lhs => rw [hj]
    rw [View.write_emb_of_mem _ _ (Finset.mem_univ _)]
    rfl
  · rename_i h
    refine View.write_of_not_mem _ _ _ fun hm => h ?_
    obtain ⟨x, -, rfl⟩ := Finset.mem_map.mp hm
    have hx : (x 0).val = 0 := Nat.lt_one_iff.mp (x 0).isLt
    simp [hx]

/-- An index whose row is `k`, by its coordinates. -/
theorem row_ix (j : S4x2048.Idx) (k : Fin 4) (h : (j 0).val = k.val) : j = ix2 k (j 1) :=
  (eq_ix2 j).trans (congrArg (fun a : Fin 4 => ix2 a (j 1)) (Fin.ext h))

/-- The four rows written, in whatever the array held. -/
theorem written_rows (fo : S4x2048.Idx → Elt F .f32) (w0 w1 w2 w3 : S1x2048.Idx → Elt F .f32) (g : S4x2048.Idx → Elt F .f32)
    (h0 : ∀ c, w0 (ix2 0 c) = g (ix2 0 c)) (h1 : ∀ c, w1 (ix2 0 c) = g (ix2 1 c))
    (h2 : ∀ c, w2 (ix2 0 c) = g (ix2 2 c)) (h3 : ∀ c, w3 (ix2 0 c) = g (ix2 3 c)) :
    (View.whole main_v1_scs).writes (Elt F) fo
      [⟨Rect.unit (s := S4x2048) ![3, 0] S1x2048.size inb_S4x2048_S1x2048_3_0, w3⟩,
       ⟨Rect.unit (s := S4x2048) ![2, 0] S1x2048.size inb_S4x2048_S1x2048_2_0, w2⟩,
       ⟨Rect.unit (s := S4x2048) ![1, 0] S1x2048.size inb_S4x2048_S1x2048_1_0, w1⟩,
       ⟨Rect.unit (s := S4x2048) ![0, 0] S1x2048.size inb_S4x2048_S1x2048_0_0, w0⟩] = g := by
  funext j
  rw [View.writes_cons, View.writes_cons, View.writes_cons, View.writes_cons, View.writes_nil]
  refine (write_row _ w3 3 inb_S4x2048_S1x2048_3_0 j).trans ?_
  split
  · rename_i h; exact (h3 _).trans (congrArg g (row_ix j 3 h).symm)
  refine (write_row _ w2 2 inb_S4x2048_S1x2048_2_0 j).trans ?_
  split
  · rename_i h; exact (h2 _).trans (congrArg g (row_ix j 2 h).symm)
  refine (write_row _ w1 1 inb_S4x2048_S1x2048_1_0 j).trans ?_
  split
  · rename_i h; exact (h1 _).trans (congrArg g (row_ix j 1 h).symm)
  refine (write_row _ w0 0 inb_S4x2048_S1x2048_0_0 j).trans ?_
  split
  · rename_i h; exact (h0 _).trans (congrArg g (row_ix j 0 h).symm)
  rename_i n3 n2 n1 n0
  exfalso
  have h4 : (j 0).val < 4 := (j 0).isLt
  simp only [show ((3 : Fin 4)).val = 3 from rfl, show ((2 : Fin 4)).val = 2 from rfl, show ((1 : Fin 4)).val = 1 from rfl,
    show ((0 : Fin 4)).val = 0 from rfl] at n3 n2 n1 n0
  omega

/-- What a row copy reads: the row at its offset. -/
theorem read_row (x : S32768x2048.Idx → Elt F .f32) (off : Fin 2 → ℕ) (n : Fin 32768) (e : off = ![n.val, 0])
    (h : ∀ a, off a + S1x2048.size a ≤ S32768x2048.size a) (c : Fin 2048) :
    View.read (Elt F) ((Memref.whole main_v0_scs : Memref sig .scScalar .hbm S32768x2048 .f32).slice
        (Rect.unit (s := S32768x2048) off S1x2048.size h) (fun _ => rfl)).view x (ix2 0 c) = x (ix2 n c) := by
  subst e
  show x _ = _
  refine congrArg x (funext fun a => Fin.ext ?_)
  fin_cases a
  · simp
  · simp

/-- The row that batch element `b` selects, at an index word in range. -/
theorem rowOf_val (idx : IVec S4 32) (hin : InRange idx) (b : Fin 4) : (rowOf idx b).val = (idx (ix1 b)).toNat + 8192 * b.val := by
  show (idx (ix1 b)).toNat % 8192 + 8192 * b.val = _
  rw [Nat.mod_eq_of_lt (hin _)]

end Cert.Proof.Rows

end
-- ==== Proof.Body.lean ====
/-
  The sequencer's body, run once over any float values. It fetches the four index words, reads them, starts four row
  copies that all signal one semaphore, and waits four times. Only after the last wait is it known which copies have
  landed, so the four are carried together until then; the rows written are disjoint, and so are the rows read, because
  word `b` selects a row of batch element `b`. The result is stated by `picked` (Proof/Select.lean).
-/
module

public import proofs.«01_k».proof.Proof.Select

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xW" => (Memref.whole Cert.KernelIdeal.main_v0_scs : Memref Cert.KernelIdeal.sig Kind.scScalar Space.hbm Cert.KernelIdeal.S32768x2048 EltTy.f32)
local notation "iW" => (Memref.whole Cert.KernelIdeal.main_arg1_scs : Memref Cert.KernelIdeal.sig Kind.scScalar Space.hbm Cert.KernelIdeal.S4 EltTy.i32)
local notation "oW" => (Memref.whole Cert.KernelIdeal.main_v1_scs : Memref Cert.KernelIdeal.sig Kind.scScalar Space.hbm Cert.KernelIdeal.S4x2048 EltTy.f32)
local notation "wW" => (Memref.whole Cert.KernelIdeal.cc0_scratch0 : Memref Cert.KernelIdeal.sig Kind.scScalar Space.smem Cert.KernelIdeal.S4 EltTy.i32)

/-- From the four arrays whole, the two semaphores at zero and the sequencer's debts, the body ends with the flattened
    array and the indices unchanged, the result at the selected rows, and both semaphores at zero again. The last
    hypothesis says how the copies on the one semaphore are grouped: four of them, then their waits. -/
theorem seq_run (d : Dev nD) (h : 0 < grid0.bound 0) (O : CellTallies nD τ sig (HIx 1)) (W : Waits sig (HIx 1))
    (fx : Buf (Elt F) ((xW).view.loc (S0 d h))) (fi : Buf (Elt F) ((iW).view.loc (S0 d h)))
    (fo : Buf (Elt F) ((oW).view.loc (S0 d h))) (fw : Buf (Elt F) ((wW).view.loc (S0 d h)))
    (hin : InRange fi)
    (_plan : Transfers.BatchOf (S0 d h) (SemLoc.dma (sig := sig) cc0_scratch1.sem) 4 (windows := true)) :
    (iprop(Transfers.MayWaits (S0 d h) (none : HIx 1) O
        ∗ ((xW).view.loc (S0 d h) ↦{fullShare} fx)
        ∗ ((iW).view.loc (S0 d h) ↦{fullShare} fi)
        ∗ ((oW).view.loc (S0 d h) ↦{fullShare} fo)
        ∗ ((wW).view.loc (S0 d h) ↦{fullShare} fw)
        ∗ semVal (S0 d h, SemLoc.dma cc0_scratch1.sem) 0
        ∗ semVal (S0 d h, SemLoc.dma cc0_scoped0.sem) 0
        ∗ owes (S0 d h) O W) : sProp 𝕄)
      ⊢ wp frame (wpE (defs₀ (F := F)) 𝒱₀ (S0 d h) none) Set.univ
          (cc0_gather_kernel (coordsS ⟨0, h⟩) xW (Memref.isWhole_whole _) iW (Memref.isWhole_whole _) oW (Memref.isWhole_whole _)
            wW (Memref.isWhole_whole _) cc0_scratch1 cc0_scoped0)
          fun _ => iprop(((xW).view.loc (S0 d h) ↦{fullShare} fx)
            ∗ ((iW).view.loc (S0 d h) ↦{fullShare} fi)
            ∗ ((oW).view.loc (S0 d h) ↦{fullShare} picked fx fi)
            ∗ (∃ f, (wW).view.loc (S0 d h) ↦{fullShare} f)
            ∗ semVal (S0 d h, SemLoc.dma cc0_scratch1.sem) 0
            ∗ semVal (S0 d h, SemLoc.dma cc0_scoped0.sem) 0
            ∗ ∃ W', owes (S0 d h) O W') := by
  iintro ⟨#Hmw, Hx, Hi, Ho, Hw, Hsem, Hsem0, HO⟩
  sl_unfold [cc0_gather_kernel, k0_part1]
  -- each word loaded is the index array's, in range: the kernel's check of it holds
  sl_exec
  have e0 : seq_run.sl.r d h fi fw = fi (ix1 0) := word_eq (F := F) fi fw 0 _ _
  have w0 := lt_of_eq_of_lt (congrArg BitVec.toNat e0) (hin (ix1 0))
  have c0 := chk1_ok _ w0
  sl_exec
  have e1 : seq_run.sl.r_1 d h fi fw = fi (ix1 1) := word_eq (F := F) fi fw 1 _ _
  have w1 := lt_of_eq_of_lt (congrArg BitVec.toNat e1) (hin (ix1 1))
  have c1 := chk2_ok _ w1
  sl_exec
  have e2 : seq_run.sl.r_2 d h fi fw = fi (ix1 2) := word_eq (F := F) fi fw 2 _ _
  have w2 := lt_of_eq_of_lt (congrArg BitVec.toNat e2) (hin (ix1 2))
  have c2 := chk3_ok _ w2
  sl_exec
  have e3 : seq_run.sl.r_3 d h fi fw = fi (ix1 3) := word_eq (F := F) fi fw 3 _ _
  have w3 := lt_of_eq_of_lt (congrArg BitVec.toNat e3) (hin (ix1 3))
  have c3 := chk4_ok _ w3
  -- the four rows read lie in different batch elements' ranges
  have d01 := rows_disjoint (k0_off1_inb _ c0) (k0_off2_inb _ c1) (by rw [off1_eq _ w0, off2_eq _ w1]; simp only [Matrix.cons_val_zero]; omega)
  have d02 := rows_disjoint (k0_off1_inb _ c0) (k0_off3_inb _ c2) (by rw [off1_eq _ w0, off3_eq _ w2]; simp only [Matrix.cons_val_zero]; omega)
  have d03 := rows_disjoint (k0_off1_inb _ c0) (k0_off4_inb _ c3) (by rw [off1_eq _ w0, off4_eq _ w3]; simp only [Matrix.cons_val_zero]; omega)
  have d12 := rows_disjoint (k0_off2_inb _ c1) (k0_off3_inb _ c2) (by rw [off2_eq _ w1, off3_eq _ w2]; simp only [Matrix.cons_val_zero]; omega)
  have d13 := rows_disjoint (k0_off2_inb _ c1) (k0_off4_inb _ c3) (by rw [off2_eq _ w1, off4_eq _ w3]; simp only [Matrix.cons_val_zero]; omega)
  have d23 := rows_disjoint (k0_off3_inb _ c2) (k0_off4_inb _ c3) (by rw [off3_eq _ w2, off4_eq _ w3]; simp only [Matrix.cons_val_zero]; omega)
  -- the four copies issued, then the four waits
  sl_exec
  have hval := written_rows (F := F) fo (seq_run.sl.dma0_1 d h fx fi fw c0) (seq_run.sl.dma1 d h fx fi fw c1)
    (seq_run.sl.dma2 d h fx fi fw c2) (seq_run.sl.dma3 d h fx fi fw c3) (picked fx fi)
    (fun c => read_row (F := F) fx _ (rowOf fi 0) (by rw [off1_eq _ w0, rowOf_val fi hin 0, ← e0]; rfl) (k0_off1_inb _ c0) c)
    (fun c => read_row (F := F) fx _ (rowOf fi 1) (by rw [off2_eq _ w1, rowOf_val fi hin 1, ← e1]; rfl) (k0_off2_inb _ c1) c)
    (fun c => read_row (F := F) fx _ (rowOf fi 2) (by rw [off3_eq _ w2, rowOf_val fi hin 2, ← e2]; rfl) (k0_off3_inb _ c2) c)
    (fun c => read_row (F := F) fx _ (rowOf fi 3) (by rw [off4_eq _ w3, rowOf_val fi hin 3, ← e3]; rfl) (k0_off4_inb _ c3) c)
  sl_step
  isplitl [Hx]; · iexact Hx
  isplitl [Hi]; · iexact Hi
  isplitl [Ho]
  · iapply (Entails.of_eq (congrArg (fun f => ((oW).view.loc (S0 d h) ↦{fullShare} f : sProp 𝕄)) hval)); iexact Ho
  isplitl [Hw]; · iexists _; iexact Hw
  isplitl [Hsem]; · iexact Hsem
  isplitl [Hsem0]; · iexact Hsem0
  iexists _; iexact HO

end Cert.Proof.Rows

end
-- ==== Proof.Launch.lean ====
/-
  The launch: the sequencer's body in the shape the launch theorem asks for, the program's main on the TensorCore (the
  reshape, then the call), and the whole run. The run says what the result array holds at the end, that both arguments
  are unchanged, and that every semaphore counter is back at zero. It is over any float values.
-/
module

public import proofs.«01_k».proof.Proof.Body

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ
local notation "xW" => (Memref.whole Cert.KernelIdeal.main_v0_scs : Memref Cert.KernelIdeal.sig Kind.scScalar Space.hbm Cert.KernelIdeal.S32768x2048 EltTy.f32)
local notation "iW" => (Memref.whole Cert.KernelIdeal.main_arg1_scs : Memref Cert.KernelIdeal.sig Kind.scScalar Space.hbm Cert.KernelIdeal.S4 EltTy.i32)
local notation "oW" => (Memref.whole Cert.KernelIdeal.main_v1_scs : Memref Cert.KernelIdeal.sig Kind.scScalar Space.hbm Cert.KernelIdeal.S4x2048 EltTy.f32)
local notation "wW" => (Memref.whole Cert.KernelIdeal.cc0_scratch0 : Memref Cert.KernelIdeal.sig Kind.scScalar Space.smem Cert.KernelIdeal.S4 EltTy.i32)

variable (m : (ℓ : Loc nD τ sig) → Buf (Elt F) ℓ) (ρ : Dev nD → PrngReg)

/-- The claims' assumption on the launch memory: the index words are in range on every device. -/
def PreOK : Prop := ∀ d : Dev nD, InRange (m (iLoc d))

/-- The array `x` with its first two axes joined. -/
def flat (d : Dev nD) : S32768x2048.Idx → Elt F .f32 := shapeCast S32768x2048 (m (aLoc d)) shapeCasts_S4x8192x2048_S32768x2048

/-- What the call leaves in the result array. -/
def result (d : Dev nD) : S4x2048.Idx → Elt F .f32 := picked (flat m d) (m (iLoc d))

/-! ## What the call hands over and takes back -/

/-- The indices' buffer, as at launch. -/
abbrev iPts (d : Dev nD) : sProp 𝕄 := iLoc d ↦{fullShare} m (iLoc d)
/-- The flattened array in its buffer. -/
abbrev xPts (d : Dev nD) : sProp 𝕄 := xLoc d ↦{fullShare} flat m d
/-- The result's buffer at `f`. -/
abbrev oPts (d : Dev nD) (f : Buf (Elt F) (oLoc d)) : sProp 𝕄 := oLoc d ↦{fullShare} f

/-- Out: the indices, the flattened array, the result at anything. -/
abbrev given (d : Dev nD) : sProp 𝕄 := iprop(iPts m d ∗ xPts m d ∗ ∃ f, oPts d f)
/-- Back: the first two unchanged, the result at the selected rows. -/
abbrev taken (d : Dev nD) : sProp 𝕄 := iprop(iPts m d ∗ xPts m d ∗ oPts d (result m d))

/-- The call's hand-over: the sequencer gets and returns the three arrays; the other cores take no part. -/
def P : (K (F := F)).Pay (nD := nD) (Val := Elt F) (Name := ℕ) (U := UU) where
  st := fun _ d _ => given m d
  dn := fun _ d _ => taken m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's own memory and semaphores -/

abbrev copyCell (d : Dev nD) (c : Fin τ.nSC) : GSem nD τ sig := (S d c, .dma cc0_scratch1.sem)
abbrev fetchCell (d : Dev nD) (c : Fin τ.nSC) : GSem nD τ sig := (S d c, .dma cc0_scoped0.sem)

omit [FloatOps F] in
/-- The sequencer's cells: the row copies', the index fetch's, and the rest. -/
theorem ownSems0_S (d : Dev nD) (c : Fin τ.nSC) :
    (ownSems0 (S d c) : sProp 𝕄) = iprop(semVal (copyCell d c) 0 ∗ semVal (fetchCell d c) 0
      ∗ bigSep (((ownCells (S d c)).erase (copyCell d c)).erase (fetchCell d c)) fun g => semVal g 0) := by
  unfold SparseCore.Cfg.ownSems0
  rw [SparseCore.bigSep_erase' ((mem_ownCells (g := copyCell d c)).mpr
      ⟨rfl, by show (SemLoc.dma cc0_scratch1.sem : SemLoc sig).isScoped .scScalar = true; decide⟩),
    SparseCore.bigSep_erase' (Finset.mem_erase.mpr ⟨fun e => absurd (congrArg (fun g : GSem nD τ sig => g.2) e)
      (show (SemLoc.dma cc0_scoped0.sem : SemLoc sig) ≠ SemLoc.dma cc0_scratch1.sem by decide),
      (mem_ownCells (g := fetchCell d c)).mpr
      ⟨rfl, by show (SemLoc.dma cc0_scoped0.sem : SemLoc sig).isScoped .scScalar = true; decide⟩⟩)]

omit [FloatOps F] in
/-- The sequencer's buffers: its four words, and the rest. -/
theorem ownBufs_S (d : Dev nD) (c : Fin τ.nSC) :
    (ownBufs (S d c) : sProp 𝕄)
      = iprop((∃ f, wLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-! ## The body as the launch asks for it -/

/-- The kernel on SparseCore 0's sequencer, from what the call hands it to what it hands back. -/
theorem body₀ (hpre : PreOK m) (d : Dev nD) (h : 0 < grid0.bound 0) (O : CellTallies nD τ sig (HIx 1)) (W : Waits sig (HIx 1))
    (hO : ∀ g, O g none = 0) :
    iprop(levAts (K (F := F)).L (K (F := F)).lev ∗ emp ∗ given m d
        ∗ scopedBufs (S0 d h) ∗ scopedSems0 (S0 d h) ∗ owes (S0 d h) O W)
      ⊢ wp frame (wpE (defs₀ (F := F)) 𝒱₀ (S0 d h) none) Set.univ
          (cc0_gather_kernel (coordsS ⟨0, h⟩) xW (Memref.isWhole_whole _) iW (Memref.isWhole_whole _) oW (Memref.isWhole_whole _)
            wW (Memref.isWhole_whole _) cc0_scratch1 cc0_scoped0)
          fun _ => iprop(taken m d ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S facts d _, SparseCore.Cfg.scopedSems0_S (Val := Elt F) d _, ownSems0_S, ownBufs_S]
  iintro ⟨#Hlv, -, ⟨Hi, Hx, %fo, Ho⟩, ⟨⟨⟨%fw, Hw⟩, Hbufs⟩, Htiles⟩, ⟨⟨Hc, Hf, Hsems⟩, HtileSems⟩, HO⟩
  ihave Hmw := ((K (F := F)).mayWaits_none (thr := S0 d h) hO) $$ Hlv
  iapply (wp_wand_r Idealize.ShloMosaic.frame (wpE (defs₀ (F := F)) 𝒱₀ (S0 d h) none) Set.univ)
  isplitl [Hx Hi Ho Hw Hc Hf HO]
  · iapply (seq_run d h O W (flat m d) (m (iLoc d)) fo fw (hpre d) trivial)
    isplitr; · iexact Hmw
    simp only [Memref.view_whole, View.set_whole]
    isplitl [Hx]; · iexact Hx
    isplitl [Hi]; · iexact Hi
    isplitl [Ho]; · iexact Ho
    isplitl [Hw]; · iexact Hw
    isplitl [Hc]; · iexact Hc
    isplitl [Hf]; · iexact Hf
    iexact HO
  simp only [Memref.view_whole, View.set_whole]
  iintro %_ ⟨Hx, Hi, Ho, ⟨%f', Hw⟩, Hc, Hf, %W', HO⟩
  isplitl [Hx Hi Ho]
  · isplitl [Hi]; · iexact Hi
    isplitl [Hx]; · iexact Hx
    iexact Ho
  isplitl [Hw Hbufs Htiles]
  · isplitl [Hw Hbufs]
    · isplitl [Hw]; · iexists _; iexact Hw
      iexact Hbufs
    iexact Htiles
  isplitl [Hc Hf Hsems HtileSems]
  · isplitl [Hc Hf Hsems]
    · isplitl [Hc]; · iexact Hc
      isplitl [Hf]; · iexact Hf
      iexact Hsems
    iexact HtileSems
  iexists W'; isplitr
  · ipureintro; intro p _
    rcases p.2 with _ | q
    · exact .inr (.inl rfl)
    · exact .inr (.inr (congrArg some (Subsingleton.elim q 0)))
  · iexact HO

theorem defs₀_scalar (c : Fin τ.nSC) :
    defs₀ (F := F) (.scScalar c) 0 ()
      = SparseCore.onCore hcore0 (fun c => cc0_gather_kernel (coordsS c) xW (Memref.isWhole_whole _) iW (Memref.isWhole_whole _)
          oW (Memref.isWhole_whole _) wW (Memref.isWhole_whole _) cc0_scratch1 cc0_scoped0) ⟨⟩ c := rfl

/-- The launch's obligation at the one call: its one SparseCore's sequencer runs the body. -/
theorem scalarObl (hpre : PreOK m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m hpre d h O W hO

/-! ## The launch's resources: the handshakes' rounds alone -/

def u₀ : UU := (initOf (K (F := F)).hsCells (K (F := F)).hsToks, 1)

omit [FloatOps F] in
/-- Many copies of nothing are nothing. -/
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hemp : (bigSep Finset.univ fun _ : Thread nD τ => bigSep Finset.univ fun _ : Fin 1 => (iprop(emp) : sProp 𝕄)) = iprop(emp) := by
    rw [bigSep_congr fun _ _ => bigSep_nothing _, bigSep_nothing]
  unfold u₀
  iintro Hu
  ihave H := (ownU_pair _ _) $$ Hu
  icases H with ⟨HH, -⟩
  imodintro
  isplitl [HH]; · iexact HH
  isplitr; · rw [bigSep_nothing]; iempintro
  show _ ⊢ (bigSep Finset.univ fun _ : Thread nD τ => bigSep Finset.univ fun _ : Fin 1 => (iprop(emp) : sProp 𝕄))
  rw [hemp]

/-! ## The TensorCore's main -/

abbrev a' : DevRef τ sig := Proc.devRef .tc (main_arg0 : Ref sig .tc)
abbrev i' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev opFlat : HloOp τ sig (Elt F) := StableHlo.reshape main_arg0 main_v0 rfl shapeCasts_S4x8192x2048_S32768x2048

/-- The TensorCore's arrays: both arguments, the flattened array, the result. -/
abbrev S4r : Finset (DevRef τ sig) := {a', i', x', o'}

omit [FloatOps F] in
theorem held_S4r (d : Dev nD) (W : Valuation τ sig (Elt F)) :
    (held (T d) S4r W : sProp 𝕄) = iprop((aLoc d ↦{fullShare} W a') ∗ (iLoc d ↦{fullShare} W i') ∗ (xLoc d ↦{fullShare} W x') ∗ oLoc d ↦{fullShare} W o') := by
  unfold held S4r
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_arg1)
      ∗ (xLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (T d) S4r (V0 m d) := by
  rw [unscopedBufs_eq, held_S4r]; rfl

/-- After the reshape: the flattened array in its buffer, the other three as at launch. -/
theorem held_V1 (d : Dev nD) :
    (held (T d) S4r ((opFlat (F := F)).result (V0 m d)) : sProp 𝕄)
      = iprop((aLoc d ↦{fullShare} m (aLoc d)) ∗ iPts m d ∗ xPts m d ∗ oPts d (m (oLoc d))) := by
  rw [held_S4r]
  rw [StableHlo.reshape_result_ne (x := main_arg0) (y := main_v0) rfl shapeCasts_S4x8192x2048_S32768x2048 _ _ (V0 m d) (r := main_arg0) (by decide),
    StableHlo.reshape_result_ne (x := main_arg0) (y := main_v0) rfl shapeCasts_S4x8192x2048_S32768x2048 _ _ (V0 m d) (r := main_arg1) (by decide),
    StableHlo.reshape_result_ne (x := main_arg0) (y := main_v0) rfl shapeCasts_S4x8192x2048_S32768x2048 _ _ (V0 m d) (r := main_v1) (by decide),
    StableHlo.reshape_result main_arg0 main_v0 rfl shapeCasts_S4x8192x2048_S32768x2048 _ _ (V0 m d)]
  rfl

theorem st0_eq (d : Dev nD) : (bigSep Finset.univ fun c : Fin ((K (F := F)).nCore 0) => (P m).st 0 d c) = given m d := by
  show (bigSep (Finset.univ : Finset (Fin 1)) fun _ => given m d) = _
  rw [show (Finset.univ : Finset (Fin 1)) = {0} by decide, bigSep_singleton]
theorem dn0_eq (d : Dev nD) : (bigSep Finset.univ fun c : Fin ((K (F := F)).nCore 0) => (P m).dn 0 d c) = taken m d := by
  show (bigSep (Finset.univ : Finset (Fin 1)) fun _ => taken m d) = _
  rw [show (Finset.univ : Finset (Fin 1)) = {0} by decide, bigSep_singleton]

theorem hFlat : (opFlat (F := F)).bufs ⊆ S4r := show ({a', x'} : Finset (DevRef τ sig)) ⊆ S4r by decide

/-- What main leaves: both arguments as at launch, the result at the selected rows. -/
abbrev FIN (d : Dev nD) : sProp 𝕄 := iprop((aLoc d ↦{fullShare} m (aLoc d)) ∗ iPts m d ∗ oPts d (result m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the reshape
  iapply (wp_hlo_within 𝒱 (SparseCore.T d) none Set.univ (op := opFlat) (S := S4r) hFlat (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hi, Hx, Ho⟩
  -- the call
  iapply ((K (F := F)).wp_run (D (F := F)) 𝒱 (EH := EH) (P := P m) κ d 0) $$ [Hst Ha Hi Hx Ho Hb Hts]
  isplitr; · iexact Hctx
  isplitl [Hst]; · iexact Hst
  isplitl [Hi Hx Ho]
  · rw [st0_eq]
    isplitl [Hi]; · iexact Hi
    isplitl [Hx]; · iexact Hx
    iexists _; iexact Ho
  iintro ⟨Hst, Hdn⟩
  ihave Hdn' := (Entails.of_eq (dn0_eq m d)) $$ Hdn
  icases Hdn' with ⟨Hi, -, Ho⟩
  imodintro
  isplitl [Hst]; · iexact Hst
  isplitr [Hb Hts]
  · isplitl [Ha]; · iexact Ha
    isplitl [Hi]; · iexact Hi
    iexact Ho
  isplitl [Hb] <;> iassumption

/-! ## The run -/

def fq (d : Dev nD) (s' : Phys nD τ sig (Elt F)) : Prop :=
  s'.mem.mem (oLoc d) = result m d ∧ s'.mem.mem (aLoc d) = m (aLoc d) ∧ s'.mem.mem (iLoc d) = m (iLoc d)

omit [FloatOps F] in
/-- An array held whole is at its contents in the machine's memory. -/
theorem agree (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hp, HSI⟩
  ihave H := (SI_pointsTo_agree (st := s') (ℓ := ℓ) (I := Finset.univ) (q := fullShare) (f := f)) $$ [HSI Hp]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have ha : iprop(FIN m d ∗ SI s') ⊢ (⌜s'.mem.mem (aLoc d) = m (aLoc d)⌝ : sProp 𝕄) := by
    iintro ⟨⟨Ha, -, -⟩, HSI⟩
    iapply (agree (F := F) (aLoc d) _ s'); isplitl [Ha] <;> iassumption
  have hi : iprop(FIN m d ∗ SI s') ⊢ (⌜s'.mem.mem (iLoc d) = m (iLoc d)⌝ : sProp 𝕄) := by
    iintro ⟨⟨-, Hi, -⟩, HSI⟩
    iapply (agree (F := F) (iLoc d) _ s'); isplitl [Hi] <;> iassumption
  have ho : iprop(FIN m d ∗ SI s') ⊢ (⌜s'.mem.mem (oLoc d) = result m d⌝ : sProp 𝕄) := by
    iintro ⟨⟨-, -, Ho⟩, HSI⟩
    iapply (agree (F := F) (oLoc d) _ s'); isplitl [Ho] <;> iassumption
  iintro H
  ihave %h1 := ho $$ H
  ihave %h2 := ha $$ H
  ihave %h3 := hi $$ H
  ipureintro; exact ⟨h1, h2, h3⟩

/-- The run's post: the result is the selected rows, the arguments are unchanged, every counter is zero. -/
def QC : PUnit × MemSt nD τ sig (Elt F) → Prop := fun r =>
  (∀ c : Dev nD, r.2.mem (oLoc c) = result m c ∧ r.2.mem (aLoc c) = m (aLoc c) ∧ r.2.mem (iLoc c) = m (iLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hpre)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Rows

end
-- ==== Proof.Range.lean ====
/-
  The precondition read back: when the predicate of the index words is all ones, every word, as a natural number, is
  below 8192.
-/
module

public import proofs.«01_k».proof.Proof.Setup
public import proofs.«01_k».proof.Proof.Gen.Pre_idx_in_range
public import Idealize.ShloMosaic.Lib.ReduceAll
public import Idealize.ShloMosaic.Lib.WordCmp

@[expose] public section

noncomputable section

namespace Cert.Proof.Rows

open Cert.Pre_idx_in_range.Gen
open Idealize.ShloMosaic Idealize.ShloMosaic.WordCmp

/-- A word between 0 and 8191, compared as a signed integer, is below 8192 as a natural number. -/
theorem below_of_and (v : BitVec 32) (e : IntOp.andi (IntOp.cmpi .sge v 0#32) (IntOp.cmpi .slt v 8192#32) = 1#1) : v.toNat < 8192 := by
  rw [show (8192#32 : BitVec 32) = BitVec.ofNat 32 8192 from rfl, andi_sge_zero_slt_ofNat (by decide), ofBool_decide_eq_one_iff] at e
  exact e

/-- The predicate's one bit is the conjunction of the words' tests, so each word passes. -/
theorem inRange_of_pre {F : FTy → Type} [FloatOps F] (x : FVec F Cert.Pre_idx_in_range.S4x8192x2048 .f32) (idx : IVec Cert.Pre_idx_in_range.S4 32)
    (h : Cert.Pre_idx_in_range.fn (F := F) x idx = fun _ => 1#1) : InRange idx := fun i => by
  have e := congrFun h (fun a => a.elim0)
  dsimp only [Cert.Pre_idx_in_range.fn] at e
  haveI : Subsingleton Cert.Pre_idx_in_range.S_.Idx := ⟨fun _ _ => funext fun a => a.elim0⟩
  exact below_of_and (idx i) (Host.reduce_andi_all _ _ _ _ _ e i)

end Cert.Proof.Rows

end
-- ==== Proof.Reference.lean ====
/-
  The reference's value: `x[arange(4), idx, :]`, as the reference program computes it, is the rows that the kernel
  selects, when every index word is below 8192. The reference wraps a negative position, joins the batch number and the
  position into a pair, and gathers the slice of `x` at each pair; in range, no wrap and no clamp changes a position.
-/
module

public import proofs.«01_k».proof.Proof.Launch
public import proofs.«01_k».proof.Proof.Gen.ReferenceIdeal
public import Idealize.ShloMosaic.Lib.Pipeline.Value
public import Idealize.ShloMosaic.Lib.WordCmp

@[expose] public section

noncomputable section

namespace Cert.Proof.Rows

open Cert.ReferenceIdeal Cert.ReferenceIdeal.Gen
open Idealize.ShloMosaic Idealize.ShloMosaic.WordCmp

variable {F : FTy → Type} [FloatOps F]

/-- The dimension numbers of the reference's gather. -/
local notation "gd" => Cert.ReferenceIdeal.gather_S4x8192x2048_S4x2_S4x2048_1_01_n_n_01_1_112048

/-- The batch numbers, as the reference computes them: 0 to 3, each increased by 4 were it negative. -/
def batchWords : IVec S4 32 :=
  select (cmpi .slt (iotaInDim S4 32 0) (broadcastInDim S4 ![] bcast_S_S4 (constantI S_ 32 0#32)))
    (addi (iotaInDim S4 32 0) (broadcastInDim S4 ![] bcast_S_S4 (constantI S_ 32 4#32))) (iotaInDim S4 32 0)

/-- The positions, as the reference computes them: the index words, each increased by 8192 when negative. -/
def posWords (idx : IVec S4 32) : IVec S4 32 :=
  select (cmpi .slt idx (broadcastInDim S4 ![] bcast_S_S4 (constantI S_ 32 0#32)))
    (addi idx (broadcastInDim S4 ![] bcast_S_S4 (constantI S_ 32 8192#32))) idx

/-- The pairs that the gather starts at. -/
def pairs (idx : IVec S4 32) : IVec S4x2 32 :=
  concatenate S4x2 1 [⟨S4x1, broadcastInDim S4x1 ![0] bcast_S4_S4x1_0 batchWords⟩,
    ⟨S4x1, broadcastInDim S4x1 ![0] bcast_S4_S4x1_0 (posWords idx)⟩] concatenates_S4x1_S4x1_S4x2_d1

/-- Batch number `b` is the word `b`. -/
theorem batchWords_at (b : Fin 4) : batchWords (ix1 b) = BitVec.ofNat 32 b.val := by
  fin_cases b <;> rfl

/-- An index word in range is its own position. -/
theorem posWords_at (idx : IVec S4 32) (hin : InRange idx) (b : Fin 4) : posWords idx (ix1 b) = idx (ix1 b) := by
  have h := hin (ix1 b)
  have hc : IntOp.cmpi .slt (idx (ix1 b)) 0#32 = 0#1 := by
    rw [cmpi_slt_zero, ofBool_decide_eq_zero_iff]
    simp only [Nat.add_one_sub_one]
    omega
  show (if IntOp.cmpi .slt (idx (ix1 b)) 0#32 = 1#1 then _ else idx (ix1 b)) = _
  rw [hc]; rfl

/-- A column made of a vector, at row `b`, is the vector at `b`. -/
theorem column_at (v : IVec S4 32) (b : Fin 4) : broadcastInDim S4x1 ![0] bcast_S4_S4x1_0 v (ix2 b 0) = v (ix1 b) := by
  unfold broadcastInDim
  refine congrArg v (funext fun a => ?_)
  obtain rfl : a = 0 := Subsingleton.elim _ _
  rfl

/-- The first part of pair `b` is the batch number. -/
theorem pairs_fst (idx : IVec S4 32) (b : Fin 4) : pairs idx (ix2 b 0) = BitVec.ofNat 32 b.val := by
  unfold pairs
  refine (concatenate_pair_apply_left 1 _ _ concatenates_S4x1_S4x1_S4x2_d1 (ix2 b 0) rfl (ix2 b 0) ?_).trans ((column_at _ b).trans (batchWords_at b))
  intro a; fin_cases a <;> rfl

/-- The second part of pair `b` is the index word. -/
theorem pairs_snd (idx : IVec S4 32) (hin : InRange idx) (b : Fin 4) : pairs idx (ix2 b 1) = idx (ix1 b) := by
  unfold pairs
  refine (concatenate_pair_apply_right 1 _ _ concatenates_S4x1_S4x1_S4x2_d1 (ix2 b 1) rfl rfl (ix2 b 0) ?_ rfl).trans
    ((column_at _ b).trans (posWords_at idx hin b))
  intro a ha; fin_cases a
  · rfl
  · exact absurd rfl ha

/-- The gather at row `b` and column `c`: the operand at the pair of row `b`, each part read signed and clamped into its
    axis, and column `c`. -/
theorem gather_at {α : Type} (x : S4x8192x2048.Idx → α) (s : IVec S4x2 32) (b : Fin 4) (c : Fin 2048) :
    Host.gather gd x s (ix2 b c)
      = x (ix3 (⟨min (s (ix2 b 0)).toInt.toNat 3, by omega⟩ : Fin 4) (⟨min (s (ix2 b 1)).toInt.toNat 8191, by omega⟩ : Fin 8192) c) := by
  unfold Host.gather
  refine congrArg x (funext fun a => Fin.ext ?_)
  show GatherDims.start gd (ix2 b c) s a + GatherDims.batchCoord gd (ix2 b c) a + GatherDims.offCoord gd (ix2 b c) a = _
  rw [GatherDims.batchCoord_eq_zero _ _ _ List.not_mem_nil, Nat.add_zero]
  unfold GatherDims.start
  have hsi : ∀ k : Fin 2, GatherDims.siIdx gd (ix2 b c) k = ix2 b k := fun k => by
    funext a; refine Fin.ext ?_
    fin_cases a <;> rfl
  match a with
  | ⟨0, hl⟩ =>
    rw [GatherDims.offCoord_eq_zero _ _ _ (fun h => ((GatherDims.mem_sKept _ _).mp h).1 (show (0 : Fin 3) ∈ [(0 : Fin 3), 1] by decide)), Nat.add_zero,
      dif_pos (show (⟨0, hl⟩ : Fin 3) ∈ GatherDims.startIndexMap gd from show (0 : Fin 3) ∈ [(0 : Fin 3), 1] by decide)]
    exact congrArg (fun i => min (s i).toInt.toNat 3) (hsi 0)
  | ⟨1, hl⟩ =>
    rw [GatherDims.offCoord_eq_zero _ _ _ (fun h => ((GatherDims.mem_sKept _ _).mp h).1 (show (1 : Fin 3) ∈ [(0 : Fin 3), 1] by decide)), Nat.add_zero,
      dif_pos (show (⟨1, hl⟩ : Fin 3) ∈ GatherDims.startIndexMap gd from show (1 : Fin 3) ∈ [(0 : Fin 3), 1] by decide)]
    exact congrArg (fun i => min (s i).toInt.toNat 8191) (hsi 1)
  | ⟨2, hl⟩ =>
    rw [dif_neg (show (⟨2, hl⟩ : Fin 3) ∉ GatherDims.startIndexMap gd from show (2 : Fin 3) ∉ [(0 : Fin 3), 1] by decide), Nat.zero_add]
    rfl

/-- The flattened array at row `r + 8192 b` is `x` at batch element `b`, row `r`. -/
theorem flat_at {α : Type} (x : S4x8192x2048.Idx → α) (h : S4x8192x2048.ShapeCasts Cert.KernelIdeal.S32768x2048) (b : Fin 4) (r : Fin 8192)
    (q : Fin 32768) (hq : q.val = r.val + 8192 * b.val) (c : Fin 2048) :
    shapeCast Cert.KernelIdeal.S32768x2048 x h (ix2 q c) = x (ix3 b r c) := by
  refine shapeCast_apply x h _ _ ?_
  rw [Shape.rowMajor_val_three, Shape.rowMajor_val_two]
  show (b.val * 8192 + r.val) * 2048 + c.val = q.val * 2048 + c.val
  omega

/-- The reference's value is the selected rows of the flattened array. -/
theorem reference_eq {α : Type} (x : S4x8192x2048.Idx → α) (h : S4x8192x2048.ShapeCasts Cert.KernelIdeal.S32768x2048)
    (idx : IVec S4 32) (hin : InRange idx) :
    Host.gather gd x (pairs idx) = picked (shapeCast Cert.KernelIdeal.S32768x2048 x h) idx := by
  funext j
  obtain ⟨b, c, rfl⟩ : ∃ (b : Fin 4) (c : Fin 2048), j = ix2 b c := ⟨j 0, j 1, eq_ix2 j⟩
  have hb := b.isLt
  have hw := hin (ix1 b)
  rw [gather_at, picked]
  refine Eq.trans ?_ (flat_at x h b ⟨(idx (ix1 b)).toNat, hw⟩ (rowOf idx b) ?_ c).symm
  · refine congrArg x ?_
    have e1 : (⟨min (pairs idx (ix2 b 0)).toInt.toNat 3, by omega⟩ : Fin 4) = b := Fin.ext (by
      show min (pairs idx (ix2 b 0)).toInt.toNat 3 = b.val
      rw [pairs_fst, toInt_ofNat_of_lt (by simp; omega)]; simp; omega)
    have e2 : (⟨min (pairs idx (ix2 b 1)).toInt.toNat 8191, by omega⟩ : Fin 8192) = ⟨(idx (ix1 b)).toNat, hw⟩ := Fin.ext (by
      show min (pairs idx (ix2 b 1)).toInt.toNat 8191 = (idx (ix1 b)).toNat
      rw [pairs_snd idx hin, toInt_eq_toNat_of_lt_half (by simp; omega)]; simp; omega)
    rw [e1, e2]
  · show (idx (ix1 b)).toNat % 8192 + 8192 * b.val = _
    rw [Nat.mod_eq_of_lt hw]

end Cert.Proof.Rows

end
-- ==== Proof.lean ====
/-
  The certificate's claims. The kernel copies one row per batch element out of a flattened array; its run
  (Proof/Launch.lean) is proved once, over any float values, and both frames and the value claim read it. The reference's
  value (Proof/Reference.lean) is the same selection of rows. The precondition (Proof/Range.lean) gives that every index
  word is in range, without which a row that the kernel names may lie outside its array.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_idx_in_range
public import proofs.«01_k».proof.Proof.Launch
public import proofs.«01_k».proof.Proof.Range
public import proofs.«01_k».proof.Proof.Reference
public import Idealize.ShloMosaic.Adequacy
public import Idealize.ShloMosaic.Init

@[expose] public section

noncomputable section

namespace Cert.Proof

open Idealize.ShloMosaic Idealize.SL.Sem
open Cert.Proof.Rows (PreOK run_main inRange_of_pre reference_eq result)

/-- The kernel runs, keeps its arguments, and ends with every counter at zero: the run at bit-pattern floats. -/
theorem frame_kernel : Cert.quiescent_Kernel := fun m ρ hpre =>
  (θ_run Cert.KernelIdeal.defs _ _).mono (fun _ h => ⟨fun c => (h.1 c).2, h.2⟩)
    (run_main (F := Bits) m ρ fun d => inRange_of_pre _ _ (hpre d))

/-- The same at extended reals. -/
theorem frame_kernelIdeal : Cert.quiescent_KernelIdeal := fun m ρ hpre =>
  (θ_run Cert.KernelIdeal.defs _ _).mono (fun _ h => ⟨fun c => (h.1 c).2, h.2⟩)
    (run_main (F := Ideal) m ρ fun d => inRange_of_pre _ _ (hpre d))

/-- The reference runs, keeps its arguments, and has no semaphore. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The reference's frame, for every index word. -/
theorem frame_reference : Cert.quiescent_ReferenceIdeal := fun m ρ _ => reference_run m ρ

/-- The reference's frame for index words in range: a case of the one above. -/
theorem frame_reference_in_range : Cert.quiescent_ReferenceIdeal_pre_idx_in_range := fun m ρ _ => reference_run m ρ

/-- The kernel's result is the reference's, at extended reals: both are the selected rows. -/
theorem value : Cert.algebraic_KernelIdeal_ReferenceIdeal := by
  intro m ρ m' ρ' hpre hagree
  have hin : PreOK m := fun d => inRange_of_pre _ _ (hpre d)
  refine ⟨fun c => result m c,
    (θ_run Cert.KernelIdeal.defs _ _).mono (fun _ h c => h.1 c) (run_main (F := Ideal) m ρ hin), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact reference_eq _ _ _ (hin c)

/-- The certificate's claim. -/
theorem claim : Cert.Claim := ⟨Cert.Kernel.Gen.facts, Cert.KernelIdeal.Gen.facts, Cert.ReferenceIdeal.Gen.facts, Cert.Pre_idx_in_range.Gen.facts,
  frame_kernel, frame_kernelIdeal, frame_reference, frame_reference_in_range, trivial, value⟩

end Cert.Proof

end
